-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_in_grid [hPre_x_in_grid : Cert.Pre_x_in_grid.Facts] (m : (ℓ : Loc Cert.KernelIdeal.nD Cert.KernelIdeal.τ Cert.KernelIdeal.sig) → Buf (Elt Ideal) ℓ) : Prop :=
  ∀ c : Dev Cert.KernelIdeal.nD,
    (Cert.Pre_x_in_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_in_grid [hPre_x_in_grid : Cert.Pre_x_in_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_in_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_x_in_grid [hKernelIdeal : Cert.KernelIdeal.Facts] [hPre_x_in_grid : Cert.Pre_x_in_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_in_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_x_in_grid [hReferenceIdeal : Cert.ReferenceIdeal.Facts] [hPre_x_in_grid : Cert.Pre_x_in_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_in_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "knot_lo" .f32 0xBF19999A#32 ((-3 / 5 : ℝ) : EReal)
  ∧ IdealRules.named_const.Statement Cert.KernelIdeal.κ "knot_hi" .f32 0x3F19999A#32 ((3 / 5 : ℝ) : EReal)
  ∧ IdealRules.named_const.Statement Cert.KernelIdeal.κ "sixth" .f32 0x3E2AAAAB#32 ((1 / 6 : ℝ) : EReal)
  ∧ IdealRules.named_const.Statement Cert.KernelIdeal.κ "two_thirds" .f32 0x3F2AAAAB#32 ((2 / 3 : ℝ) : EReal)
  ∧ IdealRules.named_const.Statement Cert.KernelIdeal.κ "inv_sqrt2" .f32 0x3F3504F3#32 (((Real.sqrt 2)⁻¹ : ℝ) : EReal)

def algebraic_KernelIdeal_ReferenceIdeal_pre_x_in_grid [hKernelIdeal : Cert.KernelIdeal.Facts] [hReferenceIdeal : Cert.ReferenceIdeal.Facts] [hPre_x_in_grid : Cert.Pre_x_in_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_in_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_x_in_grid : Cert.Pre_x_in_grid.Facts),
    quiescent_Kernel (hKernel := hKernel)
    ∧ quiescent_KernelIdeal (hKernelIdeal := hKernelIdeal)
    ∧ quiescent_KernelIdeal_pre_x_in_grid (hKernelIdeal := hKernelIdeal) (hPre_x_in_grid := hPre_x_in_grid)
    ∧ quiescent_ReferenceIdeal (hReferenceIdeal := hReferenceIdeal)
    ∧ quiescent_ReferenceIdeal_pre_x_in_grid (hReferenceIdeal := hReferenceIdeal) (hPre_x_in_grid := hPre_x_in_grid)
    ∧ preserves_Kernel_KernelIdeal
    ∧ algebraic_KernelIdeal_ReferenceIdeal_pre_x_in_grid (hKernelIdeal := hKernelIdeal) (hReferenceIdeal := hReferenceIdeal) (hPre_x_in_grid := hPre_x_in_grid)
-- ==== Pre_x_in_grid.lean ====
abbrev S4x2048x1024 : Shape := ⟨3, ![4, 2048, 1024]⟩
abbrev S4096x1024 : Shape := ⟨2, ![4096, 1024]⟩
abbrev S4096x1024x8 : Shape := ⟨3, ![4096, 1024, 8]⟩
abbrev S_ : Shape := ⟨0, ![]⟩

class Facts : Prop where
  bcast_S_S4x2048x1024 : S_.BroadcastsInDim S4x2048x1024 (![] : Fin 0 → Fin S4x2048x1024.rank)

variable [Facts]

def fn_part1 {F : FTy → Type} [FloatOps F] (main_arg0 : FVec F S4x2048x1024 .f32) (main_v4 : IVec S4x2048x1024 1) (main_v11 : IVec S4x2048x1024 1) (main_v15 : IVec S4x2048x1024 1) (main_cst_6 : FVec F S_ .f32) : IVec S4x2048x1024 1 :=
  let main_v16 : FVec F S4x2048x1024 .f32 := broadcastInDim S4x2048x1024 ![] bcast_S_S4x2048x1024 main_cst_6
  let main_v17 : IVec S4x2048x1024 1 := cmpf .oge main_arg0 main_v16
  let main_v18 : IVec S4x2048x1024 1 := ori main_v15 main_v17
  let main_v19 : IVec S4x2048x1024 1 := andi main_v4 main_v11
  let main_v20 : IVec S4x2048x1024 1 := andi main_v19 main_v18
  main_v20

def fn {F : FTy → Type} [FloatOps F] (main_arg0 : FVec F S4x2048x1024 .f32) (main_arg1 : FVec F S4096x1024 .f32) (main_arg2 : FVec F S4096x1024x8 .f32) (main_arg3 : FVec F S4096x1024 .f32) : IVec S4x2048x1024 1 :=
  let main_cst : FVec F S_ .f32 := constant S_ .f32 0xBF800000#32
  let main_v0 : FVec F S4x2048x1024 .f32 := broadcastInDim S4x2048x1024 ![] bcast_S_S4x2048x1024 main_cst
  let main_v1 : IVec S4x2048x1024 1 := cmpf .oge main_arg0 main_v0
  let main_cst_0 : FVec F S_ .f32 := constant S_ .f32 0x3F800000#32
  let main_v2 : FVec F S4x2048x1024 .f32 := broadcastInDim S4x2048x1024 ![] bcast_S_S4x2048x1024 main_cst_0
  let main_v3 : IVec S4x2048x1024 1 := cmpf .ole main_arg0 main_v2
  let main_v4 : IVec S4x2048x1024 1 := andi main_v1 main_v3
  let main_cst_1 : FVec F S_ .f32 := constant S_ .f32 0x40A00000#32
  let main_v5 : FVec F S4x2048x1024 .f32 := broadcastInDim S4x2048x1024 ![] bcast_S_S4x2048x1024 main_cst_1
  let main_v6 : FVec F S4x2048x1024 .f32 := mulf main_v5 main_arg0
  let main_cst_2 : FVec F S_ .f32 := constant S_ .f32 0xBF800000#32
  let main_v7 : FVec F S4x2048x1024 .f32 := broadcastInDim S4x2048x1024 ![] bcast_S_S4x2048x1024 main_cst_2
  let main_v8 : IVec S4x2048x1024 1 := cmpf .ole main_v6 main_v7
  let main_cst_3 : FVec F S_ .f32 := constant S_ .f32 0xBE4CCCCC#32
  let main_v9 : FVec F S4x2048x1024 .f32 := broadcastInDim S4x2048x1024 ![] bcast_S_S4x2048x1024 main_cst_3
  let main_v10 : IVec S4x2048x1024 1 := cmpf .oge main_arg0 main_v9
  let main_v11 : IVec S4x2048x1024 1 := ori main_v8 main_v10
  let main_cst_4 : FVec F S_ .f32 := constant S_ .f32 0x40A00000#32
  let main_v12 : FVec F S4x2048x1024 .f32 := broadcastInDim S4x2048x1024 ![] bcast_S_S4x2048x1024 main_cst_4
  let main_v13 : FVec F S4x2048x1024 .f32 := mulf main_v12 main_arg0
  let main_cst_5 : FVec F S_ .f32 := constant S_ .f32 0x3F800000#32
  let main_v14 : FVec F S4x2048x1024 .f32 := broadcastInDim S4x2048x1024 ![] bcast_S_S4x2048x1024 main_cst_5
  let main_v15 : IVec S4x2048x1024 1 := cmpf .ole main_v13 main_v14
  let main_cst_6 : FVec F S_ .f32 := constant S_ .f32 0x3E4CCCD0#32
  fn_part1 (F := F) main_arg0 main_v4 main_v11 main_v15 main_cst_6
-- ==== Kernel.lean ====
abbrev S4x2048x1024 : Shape := ⟨3, ![4, 2048, 1024]⟩
abbrev S4096x1024 : Shape := ⟨2, ![4096, 1024]⟩
abbrev S4096x1024x8 : Shape := ⟨3, ![4096, 1024, 8]⟩
abbrev S8192x1024 : Shape := ⟨2, ![8192, 1024]⟩
abbrev S1024x4096 : Shape := ⟨2, ![1024, 4096]⟩
abbrev S8x1024x4096 : Shape := ⟨3, ![8, 1024, 4096]⟩
abbrev S8192x4096 : Shape := ⟨2, ![8192, 4096]⟩
abbrev S1024x1024 : Shape := ⟨2, ![1024, 1024]⟩
abbrev S1024x512 : Shape := ⟨2, ![1024, 512]⟩
abbrev S8192x512 : Shape := ⟨2, ![8192, 512]⟩
abbrev S1024x9216 : Shape := ⟨2, ![1024, 9216]⟩
abbrev S128x1024 : Shape := ⟨2, ![128, 1024]⟩
abbrev S9216x512 : Shape := ⟨2, ![9216, 512]⟩
abbrev S4x2048x4096 : Shape := ⟨3, ![4, 2048, 4096]⟩

abbrev nBuf : Space → Nat
  | .hbm => 14
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S4096x1024x8, .f32⟩
  | .hbm, ⟨3, _⟩ => ⟨S4096x1024, .f32⟩
  | .hbm, ⟨4, _⟩ => ⟨S8192x1024, .f32⟩
  | .hbm, ⟨5, _⟩ => ⟨S1024x4096, .f32⟩
  | .hbm, ⟨6, _⟩ => ⟨S1024x4096, .bf16⟩
  | .hbm, ⟨7, _⟩ => ⟨S4096x1024x8, .bf16⟩
  | .hbm, ⟨8, _⟩ => ⟨S8x1024x4096, .bf16⟩
  | .hbm, ⟨9, _⟩ => ⟨S8192x4096, .bf16⟩
  | .hbm, ⟨10, _⟩ => ⟨S1024x4096, .f32⟩
  | .hbm, ⟨11, _⟩ => ⟨S1024x4096, .bf16⟩
  | .hbm, ⟨12, _⟩ => ⟨S8192x4096, .f32⟩
  | .hbm, ⟨13, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S8192x512, .bf16⟩
  | .local _ .vmem, ⟨5, _⟩ => ⟨S8192x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x9216, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "inv_sqrt2" => some (((Real.sqrt 2)⁻¹ : ℝ) : EReal)
  | "knot_hi" => some ((3 / 5 : ℝ) : EReal)
  | "knot_lo" => some ((-3 / 5 : ℝ) : EReal)
  | "sixth" => some ((1 / 6 : ℝ) : EReal)
  | "two_thirds" => some ((2 / 3 : ℝ) : EReal)
  | _ => none
-- ==== ReferenceIdeal.lean ====
abbrev S4x2048x1024 : Shape := ⟨3, ![4, 2048, 1024]⟩
abbrev S4096x1024 : Shape := ⟨2, ![4096, 1024]⟩
abbrev S4096x1024x8 : Shape := ⟨3, ![4096, 1024, 8]⟩
abbrev S_ : Shape := ⟨0, ![]⟩
abbrev S12 : Shape := ⟨1, ![12]⟩
abbrev S8192x1024 : Shape := ⟨2, ![8192, 1024]⟩
abbrev S8192x4096 : Shape := ⟨2, ![8192, 4096]⟩
abbrev S8192x1024x1 : Shape := ⟨3, ![8192, 1024, 1]⟩
abbrev S11 : Shape := ⟨1, ![11]⟩
abbrev S1x1x11 : Shape := ⟨3, ![1, 1, 11]⟩
abbrev S8192x1024x11 : Shape := ⟨3, ![8192, 1024, 11]⟩
abbrev S10 : Shape := ⟨1, ![10]⟩
abbrev S1x1x10 : Shape := ⟨3, ![1, 1, 10]⟩
abbrev S8192x1024x10 : Shape := ⟨3, ![8192, 1024, 10]⟩
abbrev S9 : Shape := ⟨1, ![9]⟩
abbrev S1x1x9 : Shape := ⟨3, ![1, 1, 9]⟩
abbrev S8192x1024x9 : Shape := ⟨3, ![8192, 1024, 9]⟩
abbrev S8 : Shape := ⟨1, ![8]⟩
abbrev S1x1x8 : Shape := ⟨3, ![1, 1, 8]⟩
abbrev S8192x1024x8 : Shape := ⟨3, ![8192, 1024, 8]⟩
abbrev S4096x1024x1 : Shape := ⟨3, ![4096, 1024, 1]⟩
abbrev S4x2048x4096 : Shape := ⟨3, ![4, 2048, 4096]⟩

abbrev nBuf : Space → Nat
  | .hbm => 140
  | .vmem => 0
  | .smem => 0
  | _ => 0

abbrev hbmTy0_0 (i : Nat) : BufTy := match i % 128 with
  | 0 => ⟨S4x2048x1024, .f32⟩
  | 1 => ⟨S4096x1024, .f32⟩
  | 2 => ⟨S4096x1024x8, .f32⟩
  | 3 => ⟨S4096x1024, .f32⟩
  | 4 => ⟨S_, .f32⟩
  | 5 => ⟨S_, .f32⟩
  | 6 => ⟨S_, .f32⟩
  | 7 => ⟨S_, .f32⟩
  | 8 => ⟨S_, .f32⟩
  | 9 => ⟨S12, .i32⟩
  | 10 => ⟨S_, .i32⟩
  | 11 => ⟨S12, .i32⟩
  | 12 => ⟨S12, .i32⟩
  | 13 => ⟨S12, .f32⟩
  | 14 => ⟨S12, .f32⟩
  | 15 => ⟨S12, .f32⟩
  | 16 => ⟨S_, .f32⟩
  | 17 => ⟨S12, .f32⟩
  | 18 => ⟨S12, .f32⟩
  | 19 => ⟨S8192x1024, .f32⟩
  | 20 => ⟨S8192x1024, .f32⟩
  | 21 => ⟨S8192x1024, .f32⟩
  | 22 => ⟨S_, .f32⟩
  | 23 => ⟨S8192x1024, .f32⟩
  | 24 => ⟨S8192x1024, .f32⟩
  | 25 => ⟨S_, .f32⟩
  | 26 => ⟨S8192x1024, .f32⟩
  | 27 => ⟨S8192x1024, .f32⟩
  | 28 => ⟨S8192x1024, .f32⟩
  | 29 => ⟨S8192x4096, .f32⟩
  | 30 => ⟨S8192x1024x1, .f32⟩
  | 31 => ⟨S11, .f32⟩
  | 32 => ⟨S1x1x11, .f32⟩
  | 33 => ⟨S8192x1024x11, .f32⟩
  | 34 => ⟨S8192x1024x11, .f32⟩
  | 35 => ⟨S8192x1024x11, .i1⟩
  | 36 => ⟨S11, .f32⟩
  | 37 => ⟨S1x1x11, .f32⟩
  | 38 => ⟨S8192x1024x11, .f32⟩
  | 39 => ⟨S8192x1024x11, .f32⟩
  | 40 => ⟨S8192x1024x11, .i1⟩
  | 41 => ⟨S8192x1024x11, .i1⟩
  | 42 => ⟨S8192x1024x11, .f32⟩
  | 43 => ⟨S10, .f32⟩
  | 44 => ⟨S1x1x10, .f32⟩
  | 45 => ⟨S8192x1024x10, .f32⟩
  | 46 => ⟨S8192x1024x10, .f32⟩
  | 47 => ⟨S8192x1024x10, .f32⟩
  | 48 => ⟨S10, .f32⟩
  | 49 => ⟨S10, .f32⟩
  | 50 => ⟨S10, .f32⟩
  | 51 => ⟨S1x1x10, .f32⟩
  | 52 => ⟨S8192x1024x10, .f32⟩
  | 53 => ⟨S8192x1024x10, .f32⟩
  | 54 => ⟨S10, .f32⟩
  | 55 => ⟨S1x1x10, .f32⟩
  | 56 => ⟨S8192x1024x10, .f32⟩
  | 57 => ⟨S8192x1024x10, .f32⟩
  | 58 => ⟨S8192x1024x10, .f32⟩
  | 59 => ⟨S10, .f32⟩
  | 60 => ⟨S10, .f32⟩
  | 61 => ⟨S10, .f32⟩
  | 62 => ⟨S1x1x10, .f32⟩
  | 63 => ⟨S8192x1024x10, .f32⟩
  | 64 => ⟨S8192x1024x10, .f32⟩
  | 65 => ⟨S8192x1024x10, .f32⟩
  | 66 => ⟨S8192x1024x10, .f32⟩
  | 67 => ⟨S8192x1024x10, .f32⟩
  | 68 => ⟨S8192x1024x10, .f32⟩
  | 69 => ⟨S8192x1024x10, .f32⟩
  | 70 => ⟨S9, .f32⟩
  | 71 => ⟨S1x1x9, .f32⟩
  | 72 => ⟨S8192x1024x9, .f32⟩
  | 73 => ⟨S8192x1024x9, .f32⟩
  | 74 => ⟨S8192x1024x9, .f32⟩
  | 75 => ⟨S9, .f32⟩
  | 76 => ⟨S9, .f32⟩
  | 77 => ⟨S9, .f32⟩
  | 78 => ⟨S1x1x9, .f32⟩
  | 79 => ⟨S8192x1024x9, .f32⟩
  | 80 => ⟨S8192x1024x9, .f32⟩
  | 81 => ⟨S9, .f32⟩
  | 82 => ⟨S1x1x9, .f32⟩
  | 83 => ⟨S8192x1024x9, .f32⟩
  | 84 => ⟨S8192x1024x9, .f32⟩
  | 85 => ⟨S8192x1024x9, .f32⟩
  | 86 => ⟨S9, .f32⟩
  | 87 => ⟨S9, .f32⟩
  | 88 => ⟨S9, .f32⟩
  | 89 => ⟨S1x1x9, .f32⟩
  | 90 => ⟨S8192x1024x9, .f32⟩
  | 91 => ⟨S8192x1024x9, .f32⟩
  | 92 => ⟨S8192x1024x9, .f32⟩
  | 93 => ⟨S8192x1024x9, .f32⟩
  | 94 => ⟨S8192x1024x9, .f32⟩
  | 95 => ⟨S8192x1024x9, .f32⟩
  | 96 => ⟨S8192x1024x9, .f32⟩
  | 97 => ⟨S8, .f32⟩
  | 98 => ⟨S1x1x8, .f32⟩
  | 99 => ⟨S8192x1024x8, .f32⟩
  | 100 => ⟨S8192x1024x8, .f32⟩
  | 101 => ⟨S8192x1024x8, .f32⟩
  | 102 => ⟨S8, .f32⟩
  | 103 => ⟨S8, .f32⟩
  | 104 => ⟨S8, .f32⟩
  | 105 => ⟨S1x1x8, .f32⟩
  | 106 => ⟨S8192x1024x8, .f32⟩
  | 107 => ⟨S8192x1024x8, .f32⟩
  | 108 => ⟨S8, .f32⟩
  | 109 => ⟨S1x1x8, .f32⟩
  | 110 => ⟨S8192x1024x8, .f32⟩
  | 111 => ⟨S8192x1024x8, .f32⟩
  | 112 => ⟨S8192x1024x8, .f32⟩
  | 113 => ⟨S8, .f32⟩
  | 114 => ⟨S8, .f32⟩
  | 115 => ⟨S8, .f32⟩
  | 116 => ⟨S1x1x8, .f32⟩
  | 117 => ⟨S8192x1024x8, .f32⟩
  | 118 => ⟨S8192x1024x8, .f32⟩
  | 119 => ⟨S8192x1024x8, .f32⟩
  | 120 => ⟨S8192x1024x8, .f32⟩
  | 121 => ⟨S8192x1024x8, .f32⟩
  | 122 => ⟨S8192x1024x8, .f32⟩
  | 123 => ⟨S8192x1024x8, .f32⟩
  | 124 => ⟨S4096x1024x1, .f32⟩
  | 125 => ⟨S4096x1024x8, .f32⟩
  | 126 => ⟨S4096x1024x8, .f32⟩
  | 127 => ⟨S8192x4096, .f32⟩
  | _ => ⟨S4x2048x1024, .f32⟩

abbrev hbmTy0_1 (i : Nat) : BufTy := match i % 128 with
  | 0 => ⟨S8192x4096, .f32⟩
  | 1 => ⟨S4x2048x4096, .f32⟩
  | 2 => ⟨S_, .f32⟩
  | 3 => ⟨S4x2048x4096, .f32⟩
  | 4 => ⟨S4x2048x4096, .f32⟩
  | 5 => ⟨S4x2048x4096, .f32⟩
  | 6 => ⟨S_, .f32⟩
  | 7 => ⟨S_, .f32⟩
  | 8 => ⟨S4x2048x4096, .f32⟩
  | 9 => ⟨S4x2048x4096, .f32⟩
  | 10 => ⟨S4x2048x4096, .f32⟩
  | 11 => ⟨S4x2048x4096, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_cst_3 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_cst_4 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩

abbrev nD : Nat := 1
abbrev τ : Topo := Topo.v7x

variable {F : FTy → Type} [FloatOps F]
-- ==== Proof.Lhs.lean ====
/- What the kernel keeps in its scratch: the wide left operand (the SiLU of the inputs beside their eight spline bases),
   written once per row block and carried across the column blocks. -/
module

public import proofs.«01_k».proof.Proof.Gen.KernelIdeal.Frame
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.ShloMosaic.Tactic Idealize.SL.Sem
open Idealize.ShloMosaic.Pipeline (Dat)

variable {F : FTy → Type} [FloatOps F] [Named F]

/-! ## One element, as the kernel computes it -/

/-- One where `x` is at or past the knot `k`, zero before it. -/
def past (x k : F .f32) : F .f32 := FloatOps.sitofp .f32 ((FloatOps.cmpf .oge x k).setWidth 32)

/-- The number of the grid cell holding `x`: how many of the four inner knots `x` has reached. -/
def cellOf (x : F .f32) : F .f32 :=
  FloatOps.addf (FloatOps.addf (FloatOps.addf (past x (Named.named κ "knot_lo" 0xBF19999A#32)) (past x (FloatOps.ofBits .f32 0xBE4CCCCC#32)))
    (past x (FloatOps.ofBits .f32 0x3E4CCCD0#32))) (past x (Named.named κ "knot_hi" 0x3F19999A#32))

/-- The place of `x` in its cell, measured in cell widths. -/
def placeOf (x : F .f32) : F .f32 :=
  FloatOps.subf (FloatOps.mulf (FloatOps.subf x (FloatOps.ofBits .f32 0xBF800000#32)) (FloatOps.ofBits .f32 0x40200000#32)) (cellOf x)

/-- The square and the cube of the place. -/
def sq (x : F .f32) : F .f32 := FloatOps.mulf (placeOf x) (placeOf x)
def cube (x : F .f32) : F .f32 := FloatOps.mulf (sq x) (placeOf x)

/-- The four cubic pieces of a uniform spline basis, at the place of `x`. -/
def piece0 (x : F .f32) : F .f32 :=
  FloatOps.mulf (FloatOps.mulf (FloatOps.mulf (FloatOps.subf (FloatOps.ofBits .f32 0x3F800000#32) (placeOf x)) (FloatOps.subf (FloatOps.ofBits .f32 0x3F800000#32) (placeOf x)))
    (FloatOps.subf (FloatOps.ofBits .f32 0x3F800000#32) (placeOf x))) (Named.named κ "sixth" 0x3E2AAAAB#32)
def piece1 (x : F .f32) : F .f32 :=
  FloatOps.addf (FloatOps.subf (FloatOps.mulf (FloatOps.ofBits .f32 0x3F000000#32) (cube x)) (sq x)) (Named.named κ "two_thirds" 0x3F2AAAAB#32)
def piece2 (x : F .f32) : F .f32 :=
  FloatOps.addf (FloatOps.addf (FloatOps.addf (FloatOps.mulf (FloatOps.ofBits .f32 0xBF000000#32) (cube x)) (FloatOps.mulf (FloatOps.ofBits .f32 0x3F000000#32) (sq x)))
    (FloatOps.mulf (FloatOps.ofBits .f32 0x3F000000#32) (placeOf x))) (Named.named κ "sixth" 0x3E2AAAAB#32)
def piece3 (x : F .f32) : F .f32 := FloatOps.mulf (cube x) (Named.named κ "sixth" 0x3E2AAAAB#32)

/-- The value `v` where `x` lies in the cell numbered by the literal `b`, zero elsewhere. -/
def inCell (b : BitVec 32) (x v : F .f32) : F .f32 :=
  Scalar.select (FloatOps.cmpf .oeq (cellOf x) (FloatOps.ofBits .f32 b)) v (FloatOps.ofBits .f32 0x00000000#32)

/-- The scratch's entry for the input element `x` in column group `k`: group 0 its SiLU, groups 1 to 8 its bases. -/
def lhsAt (x : F .f32) : ℕ → F .bf16
  | 0 => FloatOps.truncf .bf16 bitsLt_bf16_f32 (FloatOps.mulf x (FloatOps.logistic x))
  | 1 => FloatOps.truncf .bf16 bitsLt_bf16_f32 (inCell 0x00000000#32 x (piece0 x))
  | 2 => FloatOps.truncf .bf16 bitsLt_bf16_f32 (FloatOps.addf (inCell 0x00000000#32 x (piece1 x)) (inCell 0x3F800000#32 x (piece0 x)))
  | 3 => FloatOps.truncf .bf16 bitsLt_bf16_f32 (FloatOps.addf (FloatOps.addf (inCell 0x00000000#32 x (piece2 x)) (inCell 0x3F800000#32 x (piece1 x))) (inCell 0x40000000#32 x (piece0 x)))
  | 4 => FloatOps.truncf .bf16 bitsLt_bf16_f32 (FloatOps.addf (FloatOps.addf (FloatOps.addf (inCell 0x00000000#32 x (piece3 x)) (inCell 0x3F800000#32 x (piece2 x))) (inCell 0x40000000#32 x (piece1 x))) (inCell 0x40400000#32 x (piece0 x)))
  | 5 => FloatOps.truncf .bf16 bitsLt_bf16_f32 (FloatOps.addf (FloatOps.addf (FloatOps.addf (inCell 0x3F800000#32 x (piece3 x)) (inCell 0x40000000#32 x (piece2 x))) (inCell 0x40400000#32 x (piece1 x))) (inCell 0x40800000#32 x (piece0 x)))
  | 6 => FloatOps.truncf .bf16 bitsLt_bf16_f32 (FloatOps.addf (FloatOps.addf (inCell 0x40000000#32 x (piece3 x)) (inCell 0x40400000#32 x (piece2 x))) (inCell 0x40800000#32 x (piece1 x)))
  | 7 => FloatOps.truncf .bf16 bitsLt_bf16_f32 (FloatOps.addf (inCell 0x40400000#32 x (piece3 x)) (inCell 0x40800000#32 x (piece2 x)))
  | _ => FloatOps.truncf .bf16 bitsLt_bf16_f32 (inCell 0x40800000#32 x (piece3 x))

/-- The scratch filled from the input block `X`: column group by column group, each 1024 wide. -/
def lhs (X : Vec F S1024x1024 .f32) : Vec F S1024x9216 .bf16 := fun y =>
  lhsAt (X (fun | ⟨0, _⟩ => (⟨(y 0).val, (y 0).isLt⟩ : Fin 1024) | ⟨1, _⟩ => (⟨(y 1).val % 1024, Nat.mod_lt _ (by decide)⟩ : Fin 1024))) ((y 1).val / 1024)

/-- The scratch's filling at an index whose row and column group are known. -/
theorem lhs_apply (X : Vec F S1024x1024 .f32) (y : S1024x9216.Idx) (k : ℕ) (z : S1024x1024.Idx)
    (h0 : (z 0).val = (y 0).val) (h1 : (y 1).val = 1024 * k + (z 1).val) : lhs X y = lhsAt (X z) k := by
  have hz : (z 1).val < 1024 := (z 1).isLt
  unfold lhs
  rw [show (y 1).val / 1024 = k by omega]
  congr 2
  funext a
  apply Fin.ext
  match a with
  | ⟨0, _⟩ => exact h0.symm
  | ⟨1, _⟩ => show (y 1).val % 1024 = (z 1).val; omega

/-- A run of 128 whole rows lies in the input block. -/
theorem rows_in (r : ℕ) (hr : r + 128 ≤ 1024) (a : Fin S1024x1024.rank) :
    (![r, 0] : Fin 2 → ℕ) a + (![128, 1024] : Fin 2 → ℕ) a ≤ S1024x1024.size a := by
  match a with
  | ⟨0, _⟩ => exact hr
  | ⟨1, _⟩ => exact le_refl 1024

/-- A store of 128 rows into column group `k` agrees with the filling, if its value does element by element. -/
theorem piece_at (X : Vec F S1024x1024 .f32) (y : S1024x9216.Idx) (k r : ℕ) (x : S128x1024.Idx) (w : F .bf16)
    (h0 : (y 0).val = r + (x 0).val) (h1 : (y 1).val = 1024 * k + (x 1).val) (hr : r + 128 ≤ 1024)
    (hw : w = lhsAt (View.ld X (Rect.unit (s := S1024x1024) ![r, 0] ![128, 1024] (rows_in r hr)) x) k) : w = lhs X y := by
  rw [hw, View.ld_apply]
  refine (lhs_apply X y k _ ?_ ?_).symm
  · rw [Rect.idx_unit_val]; exact h0.symm
  · rw [Rect.idx_unit_val]; show _ = 1024 * k + (0 + (x 1).val); omega

variable (m : (ℓ : Loc nD τ sig) → Buf (Elt F) ℓ)

/-! ## What a grid point leaves -/

set_option maxHeartbeats 4000000 in
/-- A first column block leaves in the scratch the filling from its input block. -/
theorem scratch_first (c : Dev nD) (t : Fin cfg0.N) (h0 : t.val % 8 = 0) :
    (outsAt0 m c t.val t.isLt).2 = lhs (iblk m c 0 t) := by
  rw [outsAt0_A m c t h0]; frame_out
  funext y
  canon_tiles x h
  all_goals
    open_payloads
    simp only [shapeCast_self]
    first
      | (have hk : (y 1).val = 1024 * 0 + (x 1).val := by omega
         exact piece_at _ y 0 _ x _ (by first | exact h0 | exact h0.trans (Nat.zero_add _).symm) hk (by omega) rfl)
      | (have hk : (y 1).val = 1024 * 1 + (x 1).val := by omega
         exact piece_at _ y 1 _ x _ (by first | exact h0 | exact h0.trans (Nat.zero_add _).symm) hk (by omega) rfl)
      | (have hk : (y 1).val = 1024 * 2 + (x 1).val := by omega
         exact piece_at _ y 2 _ x _ (by first | exact h0 | exact h0.trans (Nat.zero_add _).symm) hk (by omega) rfl)
      | (have hk : (y 1).val = 1024 * 3 + (x 1).val := by omega
         exact piece_at _ y 3 _ x _ (by first | exact h0 | exact h0.trans (Nat.zero_add _).symm) hk (by omega) rfl)
      | (have hk : (y 1).val = 1024 * 4 + (x 1).val := by omega
         exact piece_at _ y 4 _ x _ (by first | exact h0 | exact h0.trans (Nat.zero_add _).symm) hk (by omega) rfl)
      | (have hk : (y 1).val = 1024 * 5 + (x 1).val := by omega
         exact piece_at _ y 5 _ x _ (by first | exact h0 | exact h0.trans (Nat.zero_add _).symm) hk (by omega) rfl)
      | (have hk : (y 1).val = 1024 * 6 + (x 1).val := by omega
         exact piece_at _ y 6 _ x _ (by first | exact h0 | exact h0.trans (Nat.zero_add _).symm) hk (by omega) rfl)
      | (have hk : (y 1).val = 1024 * 7 + (x 1).val := by omega
         exact piece_at _ y 7 _ x _ (by first | exact h0 | exact h0.trans (Nat.zero_add _).symm) hk (by omega) rfl)
      | (have hk : (y 1).val = 1024 * 8 + (x 1).val := by omega
         exact piece_at _ y 8 _ x _ (by first | exact h0 | exact h0.trans (Nat.zero_add _).symm) hk (by omega) rfl)

/-- A later column block leaves in the scratch what the point before left. -/
theorem scratch_later (c : Dev nD) (t : Fin cfg0.N) (h0 : ¬ t.val % 8 = 0) :
    (outsAt0 m c t.val t.isLt).2 = (outsAt0 m c (t.val - 1) (Nat.lt_of_le_of_lt (Nat.sub_le _ _) t.isLt)).2 := by
  rw [outsAt0_B m c t h0]; rfl

set_option maxHeartbeats 4000000 in
/-- A first column block's output tile, from the scratch filled from its input block. -/
theorem tile_first (c : Dev nD) (t : Fin cfg0.N) (h0 : t.val % 8 = 0) :
    (outsAt0 m c t.val t.isLt).1 = k0_pay4 (iblk m c 3 t) (iblk m c 1 t) (iblk m c 2 t) (lhs (iblk m c 0 t)) := by
  have e := scratch_first m c t h0
  rw [outsAt0_A m c t h0] at e ⊢
  frame_out at e
  frame_out
  refine congrArg (k0_pay4 _ _ _) ?_
  rw [View.readCov_eq_canon', e]
  funext j
  refine congrArg (lhs _) (funext fun a => Fin.ext ?_)
  match a with
  | ⟨0, _⟩ => exact (Nat.zero_add _).trans (Nat.one_mul _)
  | ⟨1, _⟩ => exact (Nat.zero_add _).trans (Nat.one_mul _)

/-- A later column block's output tile, from the scratch the point before left. -/
theorem tile_later (c : Dev nD) (t : Fin cfg0.N) (h0 : ¬ t.val % 8 = 0) :
    (outsAt0 m c t.val t.isLt).1 = k0_pay4 (iblk m c 3 t) (iblk m c 1 t) (iblk m c 2 t) (outsAt0 m c (t.val - 1) (Nat.lt_of_le_of_lt (Nat.sub_le _ _) t.isLt)).2 := by
  rw [outsAt0_B m c t h0]; frame_out
  rw [(Memref.isWhole_whole cc0_scratch0).read_unread]

end Cert.KernelIdeal.Value

end
-- ==== Proof.Layer.lean ====
/- The layer at one output element, over extended reals: the two sums of products, and the exact GELU of their total.
   Both programs are read in these terms. -/
module

public import Idealize.ShloMosaic.PureOps.Ideal.Laws

@[expose] public section

noncomputable section

namespace Cert.Layer

open Idealize.ShloMosaic

/-- The layer before its activation, at one output element: the inputs `x` each seen through nine functions, `u 0` against
    the base weights `w`, and `u 1` to `u 8` against the spline weights `s` times their scales `c`. -/
def weigh (u : ℕ → EReal → EReal) (x w : Fin 1024 → EReal) (s : Fin 8 → Fin 1024 → EReal) (c : Fin 1024 → EReal) : EReal :=
  (∑ h, u 0 (x h) * w h) + ∑ k : Fin 8, ∑ h, u (k.val + 1) (x h) * (s k h * c h)

/-- The sums depend on the nine functions only through their values at the inputs. -/
theorem weigh_congr {u v : ℕ → EReal → EReal} {x : Fin 1024 → EReal} (w : Fin 1024 → EReal) (s : Fin 8 → Fin 1024 → EReal)
    (c : Fin 1024 → EReal) (e : ∀ k < 9, ∀ h, u k (x h) = v k (x h)) : weigh u x w s c = weigh v x w s c := by
  unfold weigh
  refine congrArg₂ (· + ·) (Finset.sum_congr rfl fun h _ => ?_) (Finset.sum_congr rfl fun k _ => Finset.sum_congr rfl fun h _ => ?_)
  · rw [e 0 (by decide) h]
  · rw [e (k.val + 1) (by omega) h]

/-- The exact GELU: half of `a`, times one plus the error function of `a` over the square root of two. -/
def gelu (a : EReal) : EReal := Ideal.ofBits .f32 0x3F000000#32 * a * (1 + Ideal.erf (a * (((Real.sqrt 2)⁻¹ : ℝ) : EReal)))

end Cert.Layer

end
-- ==== Proof.Tile.lean ====
/- One output tile: the body's last value, read at an element over extended reals. -/
module

public import proofs.«01_k».proof.Proof.Lhs
public import proofs.«01_k».proof.Proof.Layer
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.ShloMosaic.Tactic
open Cert.Layer

/-- A sum over the contraction axis is its first group of 1024 terms and its eight others. -/
theorem sum_groups (f : Fin 9216 → EReal) :
    ∑ x, f x = (∑ h : Fin 1024, f ⟨h.val, by omega⟩) + ∑ k : Fin 8, ∑ h : Fin 1024, f ⟨1024 * (k.val + 1) + h.val, by omega⟩ := by
  have e := (Equiv.sum_comp (finProdFinEquiv (m := 9) (n := 1024)) f).symm
  rw [e, Fintype.sum_prod_type, Fin.sum_univ_succ]
  refine congrArg₂ (· + ·) (Finset.sum_congr rfl fun h _ => congrArg f (Fin.ext ?_))
    (Finset.sum_congr rfl fun k _ => Finset.sum_congr rfl fun h _ => congrArg f (Fin.ext ?_))
  · show h.val + 1024 * 0 = h.val; omega
  · show h.val + 1024 * (k.val + 1) = 1024 * (k.val + 1) + h.val; omega

/-- The right operand of the one contraction: the base weights over the scaled spline weights. -/
def rhs (c w : FVec Ideal S1024x512 .bf16) (s : FVec Ideal S8192x512 .bf16) : FVec Ideal S9216x512 .bf16 :=
  concatenate S9216x512 0 [⟨S1024x512, w⟩,
    ⟨S8192x512, mulf s (concatenate S8192x512 0 [⟨S1024x512, c⟩, ⟨S1024x512, c⟩, ⟨S1024x512, c⟩, ⟨S1024x512, c⟩, ⟨S1024x512, c⟩, ⟨S1024x512, c⟩, ⟨S1024x512, c⟩, ⟨S1024x512, c⟩]
      concatenates_S1024x512_S1024x512_S1024x512_S1024x512_S1024x512_S1024x512_S1024x512_S1024x512_S8192x512_d0)⟩]
    concatenates_S1024x512_S8192x512_S9216x512_d0

/-- Its first 1024 rows are the base weights, -/
theorem rhs_base (c w : FVec Ideal S1024x512 .bf16) (s : FVec Ideal S8192x512 .bf16) (h : Fin 1024) (q : Fin 512) :
    rhs c w s (ix2 ⟨h.val, by omega⟩ q) = w (ix2 h q) := by
  pointwise [rhs]

/-- and group `k` of the others the spline weights numbered `k`, scaled. -/
theorem rhs_spline (c w : FVec Ideal S1024x512 .bf16) (s : FVec Ideal S8192x512 .bf16) (k : Fin 8) (h : Fin 1024) (q : Fin 512) :
    rhs c w s (ix2 ⟨1024 * (k.val + 1) + h.val, by omega⟩ q) = s (ix2 ⟨1024 * k.val + h.val, by omega⟩ q) * c (ix2 h q) := by
  pointwise [rhs]
  rw [dif_neg (by omega)]
  refine congrArg₂ (· * ·) (congrArg s (congrArg (ix2 · q) (Fin.ext ?_))) ?_
  · show 1024 * (k.val + 1) + h.val - 1024 = 1024 * k.val + h.val; omega
  split_ifs
  all_goals exact congrArg c (congrArg (ix2 · q) (Fin.ext (by dsimp only; omega)))

/-- The constant named for the square root's inverse is that inverse. -/
theorem named_inv_sqrt2 : (Named.named κ "inv_sqrt2" 0x3F3504F3#32 : Ideal .f32) = (((Real.sqrt 2)⁻¹ : ℝ) : EReal) :=
  IdealRules.named_const.ideal_named_scalar _ _ _ _ rfl

/-- The stored tile at an element: the GELU of the contraction's row against its column. -/
theorem pay4_apply (c w : FVec Ideal S1024x512 .bf16) (s : FVec Ideal S8192x512 .bf16) (L : FVec Ideal S1024x9216 .bf16) (y : S1024x512.Idx) :
    k0_pay4 (F := Ideal) c w s L y = gelu (∑ x : Fin 9216, L (ix2 (y 0) x) * rhs c w s (ix2 x (y 1))) := by
  pointwise [k0_pay4, gelu, rhs]
  rw [named_inv_sqrt2]
  rfl

/-- The tile stored from the filled scratch, at an element: the layer over the blocks' entries. -/
theorem tile_apply (c w : FVec Ideal S1024x512 .bf16) (s : FVec Ideal S8192x512 .bf16) (X : FVec Ideal S1024x1024 .f32) (y : S1024x512.Idx) :
    k0_pay4 (F := Ideal) c w s (lhs X) y
      = gelu (weigh (fun k x => lhsAt (F := Ideal) x k) (fun h => X (ix2 (y 0) h)) (fun h => w (ix2 h (y 1)))
          (fun k h => s (ix2 ⟨1024 * k.val + h.val, by omega⟩ (y 1))) (fun h => c (ix2 h (y 1)))) := by
  rw [pay4_apply, sum_groups]
  refine congrArg gelu (congrArg₂ (· + ·) (Finset.sum_congr rfl fun h _ => ?_)
    (Finset.sum_congr rfl fun k _ => Finset.sum_congr rfl fun h _ => ?_))
  · refine congrArg₂ (· * ·) (lhs_apply (F := Ideal) X (ix2 (n0 := 1024) (n1 := 9216) (y 0) ⟨h.val, by omega⟩) 0 (ix2 (n0 := 1024) (n1 := 1024) (y 0) h) rfl ?_) (rhs_base c w s h (y 1))
    show h.val = 1024 * 0 + h.val; omega
  · exact congrArg₂ (· * ·) (lhs_apply (F := Ideal) X (ix2 (n0 := 1024) (n1 := 9216) (y 0) ⟨1024 * (k.val + 1) + h.val, by omega⟩) (k.val + 1) (ix2 (n0 := 1024) (n1 := 1024) (y 0) h) rfl rfl) (rhs_spline c w s k h (y 1))

end Cert.KernelIdeal.Value

end
-- ==== Proof.KernelValue.lean ====
/- What the kernel's result array holds after its run, element by element, as a function of the argument arrays. -/
module

public import proofs.«01_k».proof.Proof.Tile
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.ShloMosaic.Tactic Idealize.SL.Sem
open Cert.Layer

/-! ## Where the windows stand

The grid walks row block by row block: at point `t` a window stands in row block `t / 8` and column block `t % 8`. -/

theorem stand0 : ∀ t : Fin cfg0.N, win0_0.index t (0 : Fin 2) = t.val / 8 ∧ win0_0.index t (1 : Fin 2) = 0 :=
  (by decide +kernel : ∀ t : Fin grid0.N, _)
theorem stand1 : ∀ t : Fin cfg0.N, win0_1.index t (0 : Fin 2) = 0 ∧ win0_1.index t (1 : Fin 2) = t.val % 8 :=
  (by decide +kernel : ∀ t : Fin grid0.N, _)
theorem stand2 : ∀ t : Fin cfg0.N, win0_2.index t (0 : Fin 2) = 0 ∧ win0_2.index t (1 : Fin 2) = t.val % 8 :=
  (by decide +kernel : ∀ t : Fin grid0.N, _)
theorem stand3 : ∀ t : Fin cfg0.N, win0_3.index t (0 : Fin 2) = 0 ∧ win0_3.index t (1 : Fin 2) = t.val % 8 :=
  (by decide +kernel : ∀ t : Fin grid0.N, _)
theorem stand4 : ∀ t : Fin cfg0.N, win0_4.index t (0 : Fin 2) = t.val / 8 ∧ win0_4.index t (1 : Fin 2) = t.val % 8 :=
  (by decide +kernel : ∀ t : Fin grid0.N, _)

section Blocks

variable {F : FTy → Type} [FloatOps F] [Named F] (m : (ℓ : Loc nD τ sig) → Buf (Elt F) ℓ)

/-- The input block of a point: 1024 rows of the inputs. -/
theorem block0 (c : Dev nD) (t : Fin cfg0.N) (y : S1024x1024.Idx) (j : S8192x1024.Idx)
    (h0 : (j 0).val = 1024 * (t.val / 8) + (y 0).val) (h1 : (j 1).val = (y 1).val) : iblk m c 0 t y = V m c main_v0 j := by
  obtain ⟨e0, e1⟩ := stand0 t
  blk_simp [iblk]
  refine congrArg (V m c main_v0) (funext fun a => Fin.ext ?_)
  match a with
  | ⟨0, _⟩ => show win0_0.index t (0 : Fin 2) * 1024 + 1 * (y 0).val = (j 0).val; omega
  | ⟨1, _⟩ => show win0_0.index t (1 : Fin 2) * 1024 + 1 * (y 1).val = (j 1).val; omega

/-- The base weights' block of a point: 512 columns of them. -/
theorem block1 (c : Dev nD) (t : Fin cfg0.N) (y : S1024x512.Idx) (j : S1024x4096.Idx)
    (h0 : (j 0).val = (y 0).val) (h1 : (j 1).val = 512 * (t.val % 8) + (y 1).val) : iblk m c 1 t y = V m c main_v2 j := by
  obtain ⟨e0, e1⟩ := stand1 t
  blk_simp [iblk]
  refine congrArg (V m c main_v2) (funext fun a => Fin.ext ?_)
  match a with
  | ⟨0, _⟩ => show win0_1.index t (0 : Fin 2) * 1024 + 1 * (y 0).val = (j 0).val; omega
  | ⟨1, _⟩ => show win0_1.index t (1 : Fin 2) * 512 + 1 * (y 1).val = (j 1).val; omega

/-- The spline weights' block of a point: 512 columns of them. -/
theorem block2 (c : Dev nD) (t : Fin cfg0.N) (y : S8192x512.Idx) (j : S8192x4096.Idx)
    (h0 : (j 0).val = (y 0).val) (h1 : (j 1).val = 512 * (t.val % 8) + (y 1).val) : iblk m c 2 t y = V m c main_v5 j := by
  obtain ⟨e0, e1⟩ := stand2 t
  blk_simp [iblk]
  refine congrArg (V m c main_v5) (funext fun a => Fin.ext ?_)
  match a with
  | ⟨0, _⟩ => show win0_2.index t (0 : Fin 2) * 8192 + 1 * (y 0).val = (j 0).val; omega
  | ⟨1, _⟩ => show win0_2.index t (1 : Fin 2) * 512 + 1 * (y 1).val = (j 1).val; omega

/-- The scales' block of a point: 512 columns of them. -/
theorem block3 (c : Dev nD) (t : Fin cfg0.N) (y : S1024x512.Idx) (j : S1024x4096.Idx)
    (h0 : (j 0).val = (y 0).val) (h1 : (j 1).val = 512 * (t.val % 8) + (y 1).val) : iblk m c 3 t y = V m c main_v7 j := by
  obtain ⟨e0, e1⟩ := stand3 t
  blk_simp [iblk]
  refine congrArg (V m c main_v7) (funext fun a => Fin.ext ?_)
  match a with
  | ⟨0, _⟩ => show win0_3.index t (0 : Fin 2) * 1024 + 1 * (y 0).val = (j 0).val; omega
  | ⟨1, _⟩ => show win0_3.index t (1 : Fin 2) * 512 + 1 * (y 1).val = (j 1).val; omega

/-- Two points of one row block have the same input block. -/
theorem block0_same (c : Dev nD) (t u : Fin cfg0.N) (e : t.val / 8 = u.val / 8) : iblk m c 0 t = iblk m c 0 u := by
  funext y
  have hN : t.val < 64 := lt_of_lt_of_eq t.isLt N_0
  have hy : (y 0).val < 1024 := (y 0).isLt
  have hr : 1024 * (t.val / 8) + (y 0).val < 8192 := by omega
  rw [block0 m c t y (ix2 (n0 := 8192) (n1 := 1024) ⟨_, hr⟩ ⟨(y 1).val, (y 1).isLt⟩) rfl rfl]
  exact (block0 m c u y _ (by rw [← e]; rfl) rfl).symm

/-! ## What every point leaves -/

/-- After every point the scratch holds the filling from that point's input block, written there or carried. -/
theorem scratch_all (c : Dev nD) (t : ℕ) (ht : t < cfg0.N) : (outsAt0 m c t ht).2 = lhs (iblk m c 0 ⟨t, ht⟩) := by
  induction t with
  | zero => exact scratch_first m c ⟨0, ht⟩ rfl
  | succ n ih =>
    by_cases h0 : (n + 1) % 8 = 0
    · exact scratch_first m c ⟨n + 1, ht⟩ h0
    · refine (scratch_later m c ⟨n + 1, ht⟩ h0).trans ((ih (Nat.lt_of_succ_lt ht)).trans (congrArg lhs ?_))
      exact block0_same m c ⟨n, Nat.lt_of_succ_lt ht⟩ ⟨n + 1, ht⟩ (by show n / 8 = (n + 1) / 8; omega)

/-- And at every point the output tile is the body's last value over that filling. -/
theorem tile_all (c : Dev nD) (t : Fin cfg0.N) :
    (outsAt0 m c t.val t.isLt).1 = k0_pay4 (iblk m c 3 t) (iblk m c 1 t) (iblk m c 2 t) (lhs (iblk m c 0 t)) := by
  by_cases h0 : t.val % 8 = 0
  · exact tile_first m c t h0
  · rw [tile_later m c t h0, scratch_all m c _ _]
    refine congrArg (fun X => k0_pay4 (iblk m c 3 t) (iblk m c 1 t) (iblk m c 2 t) (lhs X)) (block0_same m c _ t ?_)
    show (t.val - 1) / 8 = t.val / 8; omega

end Blocks

variable (m : (ℓ : Loc nD τ sig) → Buf (Elt Ideal) ℓ)

/-! ## The argument arrays, and the arrays the kernel is handed -/

/-- The inputs, -/
def inX (c : Dev nD) : S4x2048x1024.Idx → EReal := m ((c : Thread nD τ).loc main_arg0)
/-- the base weights, -/
def inW (c : Dev nD) : S4096x1024.Idx → EReal := m ((c : Thread nD τ).loc main_arg1)
/-- the spline weights -/
def inS (c : Dev nD) : S4096x1024x8.Idx → EReal := m ((c : Thread nD τ).loc main_arg2)
/-- and their scales. -/
def inC (c : Dev nD) : S4096x1024.Idx → EReal := m ((c : Thread nD τ).loc main_arg3)

/-- The inputs as the kernel is handed them: their two leading axes merged. -/
theorem handed0 (c : Dev nD) (j : S8192x1024.Idx) :
    V m c main_v0 j = inX m c (ix3 ⟨(j 0).val / 2048, by have : (j 0).val < 8192 := (j 0).isLt; omega⟩ ⟨(j 0).val % 2048, by omega⟩ (j 1)) := by
  show StableHlo.after hostOps0 (fun b => m (c, b)) (Proc.tc.devRef main_v0) j = _
  entry_read
  pointwise
  rfl

/-- The base weights as handed: transposed. -/
theorem handed1 (c : Dev nD) (j : S1024x4096.Idx) : V m c main_v2 j = inW m c (ix2 (j 1) (j 0)) := by
  show StableHlo.after hostOps0 (fun b => m (c, b)) (Proc.tc.devRef main_v2) j = _
  entry_read
  pointwise
  rfl

/-- The spline weights as handed: their axes reversed and the first two merged. -/
theorem handed2 (c : Dev nD) (j : S8192x4096.Idx) :
    V m c main_v5 j = inS m c (ix3 (j 1) ⟨(j 0).val % 1024, by omega⟩ ⟨(j 0).val / 1024, by have : (j 0).val < 8192 := (j 0).isLt; omega⟩) := by
  show StableHlo.after hostOps0 (fun b => m (c, b)) (Proc.tc.devRef main_v5) j = _
  entry_read
  pointwise
  rfl

/-- The scales as handed: transposed. -/
theorem handed3 (c : Dev nD) (j : S1024x4096.Idx) : V m c main_v7 j = inC m c (ix2 (j 1) (j 0)) := by
  show StableHlo.after hostOps0 (fun b => m (c, b)) (Proc.tc.devRef main_v7) j = _
  entry_read
  pointwise
  rfl

/-! ## The result -/

/-- The layer's output at batch `b`, position `p` and output feature `o`, over the argument arrays. -/
def outAt (c : Dev nD) (b : Fin 4) (p : Fin 2048) (o : Fin 4096) : EReal :=
  gelu (weigh (fun k x => lhsAt (F := Ideal) x k) (fun h => inX m c (ix3 b p h)) (fun h => inW m c (ix2 o h))
    (fun k h => inS m c (ix3 o h k)) (fun h => inC m c (ix2 o h)))

/-- The kernel's output array: the layer's outputs, batch and position merged. -/
def flat (c : Dev nD) : S8192x4096.Idx → EReal := fun j =>
  outAt m c ⟨(j 0).val / 2048, by have : (j 0).val < 8192 := (j 0).isLt; omega⟩ ⟨(j 0).val % 2048, by omega⟩ ⟨(j 1).val, (j 1).isLt⟩

/-- What point `t` leaves at an element of its tile is the layer's output at the element's place in the array. -/
theorem tile_flat (c : Dev nD) (t : Fin cfg0.N) (y : S1024x512.Idx) (j : S8192x4096.Idx)
    (h0 : (j 0).val = 1024 * (t.val / 8) + (y 0).val) (h1 : (j 1).val = 512 * (t.val % 8) + (y 1).val) :
    (outsAt0 m c t.val t.isLt).1 y = flat m c j := by
  rw [tile_all]
  refine (tile_apply _ _ _ _ y).trans (congrArg gelu ?_)
  have e0 : ∀ h : Fin 1024, iblk m c 0 t (ix2 (n0 := 1024) (n1 := 1024) (y 0) h)
      = inX m c (ix3 ⟨(j 0).val / 2048, by have : (j 0).val < 8192 := (j 0).isLt; omega⟩ ⟨(j 0).val % 2048, by omega⟩ h) := fun h =>
    (block0 m c t (ix2 (n0 := 1024) (n1 := 1024) (y 0) h) (ix2 (n0 := 8192) (n1 := 1024) (j 0) h) h0 rfl).trans (handed0 m c _)
  have e1 : ∀ h : Fin 1024, iblk m c 1 t (ix2 (n0 := 1024) (n1 := 512) h (y 1)) = inW m c (ix2 ⟨(j 1).val, (j 1).isLt⟩ h) := fun h =>
    (block1 m c t (ix2 (n0 := 1024) (n1 := 512) h (y 1)) (ix2 (n0 := 1024) (n1 := 4096) h (j 1)) rfl h1).trans (handed1 m c _)
  have e3 : ∀ h : Fin 1024, iblk m c 3 t (ix2 (n0 := 1024) (n1 := 512) h (y 1)) = inC m c (ix2 ⟨(j 1).val, (j 1).isLt⟩ h) := fun h =>
    (block3 m c t (ix2 (n0 := 1024) (n1 := 512) h (y 1)) (ix2 (n0 := 1024) (n1 := 4096) h (j 1)) rfl h1).trans (handed3 m c _)
  have e2 : ∀ (k : Fin 8) (h : Fin 1024), iblk m c 2 t (ix2 (n0 := 8192) (n1 := 512) ⟨1024 * k.val + h.val, by omega⟩ (y 1))
      = inS m c (ix3 ⟨(j 1).val, (j 1).isLt⟩ h k) := fun k h => by
    refine (block2 m c t (ix2 (n0 := 8192) (n1 := 512) ⟨1024 * k.val + h.val, by omega⟩ (y 1)) (ix2 (n0 := 8192) (n1 := 4096) ⟨1024 * k.val + h.val, by omega⟩ (j 1)) rfl h1).trans ((handed2 m c _).trans ?_)
    refine congrArg (inS m c) (congrArg₂ (ix3 (n0 := 4096) (n1 := 1024) (n2 := 8) (j 1)) (Fin.ext ?_) (Fin.ext ?_))
    · show (1024 * k.val + h.val) % 1024 = h.val; omega
    · show (1024 * k.val + h.val) / 1024 = k.val; omega
  unfold weigh
  refine congrArg₂ (· + ·) (Finset.sum_congr rfl fun h _ => ?_) (Finset.sum_congr rfl fun k _ => Finset.sum_congr rfl fun h _ => ?_)
  · exact congrArg₂ (· * ·) (congrArg (fun x => lhsAt (F := Ideal) x 0) (e0 h)) (e1 h)
  · exact congrArg₂ (· * ·) (congrArg (fun x => lhsAt (F := Ideal) x (k.val + 1)) (e0 h)) (congrArg₂ (· * ·) (e2 k h) (e3 h))

/-- After the run the output window's array is the layer's outputs. -/
theorem array_flat (c : Dev nD) : (dats m 0 c).arrAt 4 cfg0.N = flat m c := by
  refine (dats m 0 c).arrAt_eq_of_covers 4 _ (by decide +kernel) fun t _ y => ?_
  obtain ⟨e0, e1⟩ := stand4 t
  blk_simp
  rw [after0_4]
  refine tile_flat m c t y _ ?_ ?_
  · show win0_4.index t (0 : Fin 2) * 1024 + 1 * (y 0).val = _; omega
  · show win0_4.index t (1 : Fin 2) * 512 + 1 * (y 1).val = _; omega

/-- The result array: the layer's outputs, batch and position apart again. -/
def result (c : Dev nD) : S4x2048x4096.Idx → EReal := fun i => outAt m c (i 0) (i 1) (i 2)

/-- What the line after the kernel leaves in the result buffer. -/
theorem tail_result (c : Dev nD) :
    Pipeline.afterTail₀ cfgs (dats m) 0 (V0 m) [hostOps1] c main_v9 = result m c := by
  unfold Pipeline.afterTail₀
  show StableHlo.after hostOps1 _ (Proc.tc.devRef main_v9) = _
  entry_read
  have e : Pipeline.withArrays (cfgs 0).spec c (V0 m c) (fun w => (dats m 0 c).arrAt w (cfgs 0).N) (Proc.tc.devRef main_v8) = flat m c :=
    (Pipeline.withArrays_arr spec0 (by decide) c (V0 m c) (fun w => (dats m 0 c).arrAt w cfg0.N) 4).trans (array_flat m c)
  rw [e]
  funext i
  have h0 : (i 0).val < 4 := (i 0).isLt
  have h1 : (i 1).val < 2048 := (i 1).isLt
  pointwise [flat, result]
  exact congrArg₂ (fun b p => outAt m c b p (i 2)) (Fin.ext (show ((i 0).val * 2048 + (i 1).val) / 2048 = (i 0).val by omega))
    (Fin.ext (show ((i 0).val * 2048 + (i 1).val) % 2048 = (i 1).val by omega))

/-- The run: it ends with the layer's outputs in the result buffer and the arguments as launched. -/
theorem run (ρ : Dev nD → PrngReg) : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨((h c).2 main_v9 (Pipeline.mem_restRefs_of main_v9 (by decide) (by decide))).trans (tail_result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Value

end
-- ==== Proof.Spline.lean ====
/- Cubic B-splines on the layer's uniform grid, over the reals: the Cox-de Boor recursion, its closed form on a grid
   cell, and the sums of selected pieces that the kernel uses in its place. -/
module

public import Idealize.ShloMosaic.PureOps.Ideal.Laws

@[expose] public section

noncomputable section

namespace Cert.Spline

/-! ## The recursion and its closed form -/

/-- The knots: a step of 2/5, three knots before the grid's start at -1. -/
def knot (i : ℕ) : ℝ := ((i : ℝ) - 3) * (2 / 5) + -1

/-- One where `r` lies between knot `i` and the next, zero elsewhere. -/
def hit (r : ℝ) (i : ℕ) : ℝ := if knot i ≤ r ∧ r < knot (1 + i) then 1 else 0

/-- The B-spline basis of degree `d` with number `i`, by the Cox-de Boor recursion. -/
def basis (r : ℝ) : ℕ → ℕ → ℝ
  | 0, i => hit r i
  | d + 1, i => (r - knot i) / (knot (d + 1 + i) - knot i) * basis r d i
      + (knot (d + 2 + i) - r) / (knot (d + 2 + i) - knot (1 + i)) * basis r d (1 + i)

/-- The four pieces of a cubic basis, from its last cell to its first, at the place `s` in the cell. -/
def cut0 (s : ℝ) : ℝ := (1 - s) * (1 - s) * (1 - s) * (1 / 6)
def cut1 (s : ℝ) : ℝ := 1 / 2 * (s * s * s) - s * s + 2 / 3
def cut2 (s : ℝ) : ℝ := -(1 / 2) * (s * s * s) + 1 / 2 * (s * s) + 1 / 2 * s + 1 / 6
def cut3 (s : ℝ) : ℝ := s * s * s * (1 / 6)

/-- A cubic basis is, on each of its four cells, one of the four pieces. -/
theorem basis_three (r : ℝ) (i : ℕ) : basis r 3 i =
    hit r i * cut3 ((r - knot i) * (5 / 2)) + hit r (1 + i) * cut2 ((r - knot (1 + i)) * (5 / 2))
      + hit r (2 + i) * cut1 ((r - knot (2 + i)) * (5 / 2)) + hit r (3 + i) * cut0 ((r - knot (3 + i)) * (5 / 2)) := by
  have e1 : 1 + (1 + i) = 2 + i := by omega
  have e2 : 1 + (2 + i) = 3 + i := by omega
  have e3 : 2 + (1 + i) = 3 + i := by omega
  have e4 : 3 + (1 + i) = 4 + i := by omega
  have e5 : 1 + (3 + i) = 4 + i := by omega
  have e6 : 2 + (2 + i) = 4 + i := by omega
  simp only [basis, Nat.reduceAdd, e1, e2, e3, e4, e5, e6]
  have k1 : knot (1 + i) = knot i + 2 / 5 := by unfold knot; push_cast; ring
  have k2 : knot (2 + i) = knot i + 4 / 5 := by unfold knot; push_cast; ring
  have k3 : knot (3 + i) = knot i + 6 / 5 := by unfold knot; push_cast; ring
  have k4 : knot (4 + i) = knot i + 8 / 5 := by unfold knot; push_cast; ring
  rw [k1, k2, k3, k4]
  generalize knot i = g
  unfold cut0 cut1 cut2 cut3
  ring

/-- A point between two neighbouring knots lies between no other two. -/
theorem hit_eq (r : ℝ) (n j : ℕ) (h : knot n ≤ r) (h' : r < knot (1 + n)) : hit r j = if j = n then 1 else 0 := by
  unfold hit
  refine if_congr ⟨fun ⟨a, b⟩ => ?_, fun e => e ▸ ⟨h, h'⟩⟩ rfl rfl
  unfold knot at *
  push_cast at *
  have h1 : (j : ℝ) < n + 1 := by linarith
  have h2 : (n : ℝ) < j + 1 := by linarith
  have h1' : j < n + 1 := by exact_mod_cast h1
  have h2' : n < j + 1 := by exact_mod_cast h2
  omega

/-! ## The sums of selected pieces -/

/-- The value `v` where the cell number `c` is `n`, zero elsewhere. -/
def pick (n c v : ℝ) : ℝ := if c = n then v else 0

/-- The eight bases as sums of pieces, each taken on the cell where it stands, at the place `s` of cell `c`. -/
def closed (c s : ℝ) : ℕ → ℝ
  | 0 => pick 0 c (cut0 s)
  | 1 => pick 0 c (cut1 s) + pick 1 c (cut0 s)
  | 2 => pick 0 c (cut2 s) + pick 1 c (cut1 s) + pick 2 c (cut0 s)
  | 3 => pick 0 c (cut3 s) + pick 1 c (cut2 s) + pick 2 c (cut1 s) + pick 3 c (cut0 s)
  | 4 => pick 1 c (cut3 s) + pick 2 c (cut2 s) + pick 3 c (cut1 s) + pick 4 c (cut0 s)
  | 5 => pick 2 c (cut3 s) + pick 3 c (cut2 s) + pick 4 c (cut1 s)
  | 6 => pick 3 c (cut3 s) + pick 4 c (cut2 s)
  | _ => pick 4 c (cut3 s)

/-- On the cell with number `n`, the sums are the bases of the recursion. -/
theorem closed_cell (r : ℝ) (n : ℕ) (hn : n < 5) (h : knot (n + 3) ≤ r) (h' : r < knot (1 + (n + 3))) (i : ℕ) (hi : i < 8) :
    closed n ((r - -1) * (5 / 2) - n) i = basis r 3 i := by
  have place : (r - knot (n + 3)) * (5 / 2) = (r - -1) * (5 / 2) - n := by unfold knot; push_cast; ring
  rw [basis_three, hit_eq r (n + 3) _ h h', hit_eq r (n + 3) _ h h', hit_eq r (n + 3) _ h h', hit_eq r (n + 3) _ h h', ← place]
  interval_cases n <;> interval_cases i <;> norm_num [closed, pick]

/-- The same at the cell's end: neighbouring pieces meet at a knot. -/
theorem closed_end (n : ℕ) (hn : n < 5) (i : ℕ) (hi : i < 8) :
    closed n ((knot (1 + (n + 3)) - -1) * (5 / 2) - n) i = basis (knot (1 + (n + 3))) 3 i := by
  have h' : knot (1 + (n + 3)) < knot (1 + (1 + (n + 3))) := by unfold knot; push_cast; linarith
  rw [basis_three, hit_eq _ (1 + (n + 3)) _ le_rfl h', hit_eq _ (1 + (n + 3)) _ le_rfl h', hit_eq _ (1 + (n + 3)) _ le_rfl h',
    hit_eq _ (1 + (n + 3)) _ le_rfl h']
  interval_cases n <;> interval_cases i <;> norm_num [closed, pick, cut0, cut1, cut2, cut3, knot]

/-- The inner knots -1/5 and 1/5 as the kernel holds them, rounded. -/
def near5 : ℝ := -13421772 / 67108864
def near6 : ℝ := 13421776 / 67108864

/-- How many of the four inner knots `r` has reached, two of them rounded. -/
def cell (r : ℝ) : ℝ :=
  (if -3 / 5 ≤ r then 1 else 0) + (if near5 ≤ r then 1 else 0) + (if near6 ≤ r then 1 else 0) + (if 3 / 5 ≤ r then 1 else 0)

/-- On the whole grid, save strictly between a knot and its rounding, the sums of selected pieces are the bases of the
    recursion. -/
theorem closed_eq (r : ℝ) (h : -1 ≤ r) (h' : r ≤ 1) (h5 : 5 * r ≤ -1 ∨ near5 ≤ r) (h6 : 5 * r ≤ 1 ∨ near6 ≤ r) (i : ℕ) (hi : i < 8) :
    closed (cell r) ((r - -1) * (5 / 2) - cell r) i = basis r 3 i := by
  obtain ⟨n, hn, e, l, u⟩ : ∃ n : ℕ, n < 5 ∧ cell r = n ∧ knot (n + 3) ≤ r ∧ r ≤ knot (1 + (n + 3)) := by
    have v5 : -1 / 5 < near5 := by norm_num [near5]
    have w5 : near5 < -1 / 6 := by norm_num [near5]
    have v6 : 1 / 5 < near6 := by norm_num [near6]
    have w6 : near6 < 3 / 5 := by norm_num [near6]
    unfold cell
    generalize near5 = p at *
    generalize near6 = q at *
    by_cases d : 3 / 5 ≤ r
    · exact ⟨4, by decide, by rw [if_pos (by linarith), if_pos (by linarith), if_pos (by linarith), if_pos d]; norm_num,
        by norm_num [knot]; linarith, by norm_num [knot]; linarith⟩
    by_cases c : q ≤ r
    · exact ⟨3, by decide, by rw [if_pos (by linarith), if_pos (by linarith), if_pos c, if_neg d]; norm_num,
        by norm_num [knot]; linarith, by norm_num [knot]; linarith⟩
    replace h6 := h6.resolve_right c
    by_cases b : p ≤ r
    · exact ⟨2, by decide, by rw [if_pos (by linarith), if_pos b, if_neg c, if_neg d]; norm_num,
        by norm_num [knot]; linarith, by norm_num [knot]; linarith⟩
    replace h5 := h5.resolve_right b
    by_cases a : -3 / 5 ≤ r
    · exact ⟨1, by decide, by rw [if_pos a, if_neg b, if_neg c, if_neg d]; norm_num,
        by norm_num [knot]; linarith, by norm_num [knot]; linarith⟩
    · exact ⟨0, by decide, by rw [if_neg a, if_neg b, if_neg c, if_neg d]; norm_num,
        by norm_num [knot]; linarith, by norm_num [knot]; linarith⟩
  rw [e]
  rcases lt_or_eq_of_le u with u | u
  · exact closed_cell r n hn l u i hi
  · rw [u]
    exact closed_end n hn i hi

end Cert.Spline

end
-- ==== Proof.Element.lean ====
/- The kernel's nine functions of one input element, read at a real number: the SiLU, and the eight sums of selected
   cubic pieces. -/
module

public import proofs.«01_k».proof.Proof.Lhs
public import proofs.«01_k».proof.Proof.Spline

@[expose] public section

noncomputable section

namespace Cert.KernelIdeal.Value

open Cert.KernelIdeal Idealize.ShloMosaic
open Cert.Spline

/-! ## The literals and the named constants -/

theorem lit_neg_one : (FloatOps.ofBits .f32 0xBF800000#32 : Ideal .f32) = ((-1 : ℝ) : EReal) := by
  simp [Ideal.ofBits_def, Ideal.ofBits, Ideal.ieee, -EReal.coe_mul]; norm_num
theorem lit_neg_half : (FloatOps.ofBits .f32 0xBF000000#32 : Ideal .f32) = ((-(1 / 2) : ℝ) : EReal) := by
  simp [Ideal.ofBits_def, Ideal.ofBits, Ideal.ieee, -EReal.coe_mul]; norm_num
theorem lit_half : (FloatOps.ofBits .f32 0x3F000000#32 : Ideal .f32) = ((1 / 2 : ℝ) : EReal) := by
  simp [Ideal.ofBits_def, Ideal.ofBits, Ideal.ieee, -EReal.coe_mul]; norm_num
theorem lit_five_halves : (FloatOps.ofBits .f32 0x40200000#32 : Ideal .f32) = ((5 / 2 : ℝ) : EReal) := by
  simp [Ideal.ofBits_def, Ideal.ofBits, Ideal.ieee, -EReal.coe_mul]; norm_num
theorem lit_zero : (FloatOps.ofBits .f32 0x00000000#32 : Ideal .f32) = ((0 : ℝ) : EReal) := by
  simp [Ideal.ofBits_def, Ideal.ofBits, Ideal.ieee, -EReal.coe_mul]
theorem lit_one : (FloatOps.ofBits .f32 0x3F800000#32 : Ideal .f32) = ((1 : ℝ) : EReal) := by
  simp [Ideal.ofBits_def, Ideal.ofBits, Ideal.ieee, -EReal.coe_mul]; norm_num
theorem lit_two : (FloatOps.ofBits .f32 0x40000000#32 : Ideal .f32) = ((2 : ℝ) : EReal) := by
  simp [Ideal.ofBits_def, Ideal.ofBits, Ideal.ieee, -EReal.coe_mul]; norm_num
theorem lit_three : (FloatOps.ofBits .f32 0x40400000#32 : Ideal .f32) = ((3 : ℝ) : EReal) := by
  simp [Ideal.ofBits_def, Ideal.ofBits, Ideal.ieee, -EReal.coe_mul]; norm_num
theorem lit_four : (FloatOps.ofBits .f32 0x40800000#32 : Ideal .f32) = ((4 : ℝ) : EReal) := by
  simp [Ideal.ofBits_def, Ideal.ofBits, Ideal.ieee, -EReal.coe_mul]; norm_num

/-- The two inner knots that are held rounded. -/
theorem lit_near5 : (FloatOps.ofBits .f32 0xBE4CCCCC#32 : Ideal .f32) = ((near5 : ℝ) : EReal) := by
  simp [Ideal.ofBits_def, Ideal.ofBits, Ideal.ieee, near5, -EReal.coe_mul]; norm_num
theorem lit_near6 : (FloatOps.ofBits .f32 0x3E4CCCD0#32 : Ideal .f32) = ((near6 : ℝ) : EReal) := by
  simp [Ideal.ofBits_def, Ideal.ofBits, Ideal.ieee, near6, -EReal.coe_mul]; norm_num

theorem const_knot_lo : (Named.named κ "knot_lo" 0xBF19999A#32 : Ideal .f32) = ((-3 / 5 : ℝ) : EReal) :=
  IdealRules.named_const.ideal_named_scalar _ _ _ _ rfl
theorem const_knot_hi : (Named.named κ "knot_hi" 0x3F19999A#32 : Ideal .f32) = ((3 / 5 : ℝ) : EReal) :=
  IdealRules.named_const.ideal_named_scalar _ _ _ _ rfl
theorem const_sixth : (Named.named κ "sixth" 0x3E2AAAAB#32 : Ideal .f32) = ((1 / 6 : ℝ) : EReal) :=
  IdealRules.named_const.ideal_named_scalar _ _ _ _ rfl
theorem const_two_thirds : (Named.named κ "two_thirds" 0x3F2AAAAB#32 : Ideal .f32) = ((2 / 3 : ℝ) : EReal) :=
  IdealRules.named_const.ideal_named_scalar _ _ _ _ rfl

/-! ## Real arithmetic -/

theorem add_real (a b : ℝ) : FloatOps.addf (F := Ideal) (φ := .f32) ((a : ℝ) : EReal) ((b : ℝ) : EReal) = ((a + b : ℝ) : EReal) :=
  (EReal.coe_add a b).symm
theorem sub_real (a b : ℝ) : FloatOps.subf (F := Ideal) (φ := .f32) ((a : ℝ) : EReal) ((b : ℝ) : EReal) = ((a - b : ℝ) : EReal) :=
  (EReal.coe_sub a b).symm
theorem mul_real (a b : ℝ) : FloatOps.mulf (F := Ideal) (φ := .f32) ((a : ℝ) : EReal) ((b : ℝ) : EReal) = ((a * b : ℝ) : EReal) :=
  (EReal.coe_mul a b).symm

/-! ## The cell, the place, the pieces -/

/-- A comparison with a knot, as a number. -/
theorem past_real (r k : ℝ) : past (F := Ideal) ((r : ℝ) : EReal) ((k : ℝ) : EReal) = (((if k ≤ r then 1 else 0 : ℝ)) : EReal) := by
  have e : past (F := Ideal) ((r : ℝ) : EReal) ((k : ℝ) : EReal)
      = ((((BitVec.ofBool (decide ((k : EReal) ≤ (r : EReal)))).setWidth 32).toInt : ℝ) : EReal) := rfl
  rw [e]
  by_cases h : k ≤ r
  · simp [h]
  · simp [h]

theorem cellOf_real (r : ℝ) : cellOf (F := Ideal) ((r : ℝ) : EReal) = ((cell r : ℝ) : EReal) := by
  unfold cellOf cell
  rw [lit_near5, lit_near6, const_knot_lo, const_knot_hi, past_real, past_real, past_real, past_real,
    add_real, add_real, add_real]

/-- The place in its cell of a real number. -/
abbrev place (r : ℝ) : ℝ := (r - -1) * (5 / 2) - cell r

theorem placeOf_real (r : ℝ) : placeOf (F := Ideal) ((r : ℝ) : EReal) = ((place r : ℝ) : EReal) := by
  unfold placeOf
  rw [cellOf_real, lit_neg_one, lit_five_halves, sub_real, mul_real, sub_real]

theorem piece0_real (r : ℝ) : piece0 (F := Ideal) ((r : ℝ) : EReal) = ((cut0 (place r) : ℝ) : EReal) := by
  unfold piece0
  rw [placeOf_real, const_sixth, lit_one, sub_real, mul_real, mul_real, mul_real]
  rfl
theorem piece1_real (r : ℝ) : piece1 (F := Ideal) ((r : ℝ) : EReal) = ((cut1 (place r) : ℝ) : EReal) := by
  unfold piece1 cube sq
  rw [placeOf_real, const_two_thirds, lit_half, mul_real, mul_real, mul_real, sub_real, add_real]
  rfl
theorem piece2_real (r : ℝ) : piece2 (F := Ideal) ((r : ℝ) : EReal) = ((cut2 (place r) : ℝ) : EReal) := by
  unfold piece2 cube sq
  rw [placeOf_real, const_sixth, lit_half, lit_neg_half, mul_real, mul_real, mul_real, mul_real, mul_real, add_real, add_real, add_real]
  rfl
theorem piece3_real (r : ℝ) : piece3 (F := Ideal) ((r : ℝ) : EReal) = ((cut3 (place r) : ℝ) : EReal) := by
  unfold piece3 cube sq
  rw [placeOf_real, const_sixth, mul_real, mul_real, mul_real]
  rfl

theorem inCell_real (b : BitVec 32) (n : ℝ) (hb : (FloatOps.ofBits .f32 b : Ideal .f32) = ((n : ℝ) : EReal)) (r v : ℝ) :
    inCell (F := Ideal) b ((r : ℝ) : EReal) ((v : ℝ) : EReal) = ((pick n (cell r) v : ℝ) : EReal) := by
  unfold inCell pick
  rw [cellOf_real, hb, lit_zero]
  have e : FloatOps.cmpf (F := Ideal) (φ := .f32) .oeq ((cell r : ℝ) : EReal) ((n : ℝ) : EReal)
      = BitVec.ofBool (decide (((cell r : ℝ) : EReal) = ((n : ℝ) : EReal))) := rfl
  rw [e]
  by_cases h : cell r = n
  · simp [h, Scalar.select]
  · simp [h, Scalar.select]

/-- At a real number the kernel's eight spline functions are the sums of selected pieces. -/
theorem lhsAt_real (r : ℝ) (i : ℕ) (hi : i < 8) : lhsAt (F := Ideal) ((r : ℝ) : EReal) (i + 1) = ((closed (cell r) (place r) i : ℝ) : EReal) := by
  interval_cases i <;>
    (simp only [lhsAt, closed, piece0_real, piece1_real, piece2_real, piece3_real, inCell_real _ _ lit_zero, inCell_real _ _ lit_one,
       inCell_real _ _ lit_two, inCell_real _ _ lit_three, inCell_real _ _ lit_four, add_real]
     rfl)

/-- On the grid, save strictly between a knot and its rounding, they are the bases of the Cox-de Boor recursion. -/
theorem lhsAt_basis (r : ℝ) (h : -1 ≤ r) (h' : r ≤ 1) (h5 : 5 * r ≤ -1 ∨ near5 ≤ r) (h6 : 5 * r ≤ 1 ∨ near6 ≤ r) (i : ℕ) (hi : i < 8) :
    lhsAt (F := Ideal) ((r : ℝ) : EReal) (i + 1) = ((basis r 3 i : ℝ) : EReal) := by
  rw [lhsAt_real r i hi, closed_eq r h h' h5 h6 i hi]

/-- The first function is the SiLU. -/
theorem lhsAt_silu (x : EReal) : lhsAt (F := Ideal) x 0 = x * Ideal.div 1 (1 + Ideal.exp (-x)) := rfl

end Cert.KernelIdeal.Value

end
-- ==== Proof.RefValue.lean ====
/- The reference's result, element by element: the knots, the three steps of the Cox-de Boor recursion, the two sums of
   products and the exact GELU, for inputs that are real numbers. -/
module

public import proofs.«01_k».proof.Proof.Gen.ReferenceIdeal.Read
public import proofs.«01_k».proof.Proof.Layer
public import proofs.«01_k».proof.Proof.Spline
public import Idealize.ShloMosaic.Lib.Pointwise

@[expose] public section

set_option maxRecDepth 4000

noncomputable section

namespace Cert.ReferenceIdeal.Read

open Idealize.ShloMosaic Cert.ReferenceIdeal
open Cert.Spline Cert.Layer

/-! ## The knots and the recursion -/

/-- The reference's knots are the knots of the uniform grid. -/
theorem knots (i : Fin 12) : val_main_v9 (F := Ideal) (ix1 i) = ((knot i.val : ℝ) : EReal) := by
  pointwise [val_main_v0, val_main_v1, val_main_v2, val_main_v3, val_main_v4, val_main_v5, val_main_v6, val_main_v7, val_main_v8, val_main_v9, val_main_cst, val_main_cst_0, val_main_cst_1, val_main_cst_2, val_main_c]
  have e1 : Ideal.ofBits .f32 0xBF800000#32 = ((-1 : ℝ) : EReal) := by
    simp [Ideal.ofBits, Ideal.ieee, -EReal.coe_mul]; norm_num
  have e5 : Ideal.ofBits .f32 0x40A00000#32 = ((5 : ℝ) : EReal) := by
    simp [Ideal.ofBits, Ideal.ieee, -EReal.coe_mul]; norm_num
  have ei : FloatOps.sitofp (F := Ideal) .f32 (IntOp.addi 4294967293#32 (BitVec.ofNat 32 i.val)) = ((((i.val : ℝ) - 3 : ℝ)) : EReal) := by
    have h : ∀ i : Fin 12, (IntOp.addi 4294967293#32 (BitVec.ofNat 32 i.val)).toInt = (i.val : ℤ) - 3 := by decide
    show ((((IntOp.addi 4294967293#32 (BitVec.ofNat 32 i.val)).toInt : ℝ)) : EReal) = _
    rw [h i]; push_cast; rfl
  rw [e1, e5, ei, Ideal.div_coe (by norm_num : (5 : ℝ) ≠ 0), ← EReal.coe_one, ← EReal.coe_sub, ← EReal.coe_mul, ← EReal.coe_mul, ← EReal.coe_add]
  unfold knot
  norm_num

variable (x0 : (⟨S4x2048x1024, .f32⟩ : BufTy).Contents (Elt Ideal)) (x1 : (⟨S4096x1024, .f32⟩ : BufTy).Contents (Elt Ideal))
  (x2 : (⟨S4096x1024x8, .f32⟩ : BufTy).Contents (Elt Ideal)) (x3 : (⟨S4096x1024, .f32⟩ : BufTy).Contents (Elt Ideal))

/-- One step of the recursion, on extended reals that are real numbers. -/
theorem step_real (r a b c d u v : ℝ) (hb : b - a ≠ 0) (hd : c - d ≠ 0) :
    Ideal.div ((r : EReal) - (a : EReal)) ((b : EReal) - (a : EReal)) * (u : EReal) + Ideal.div ((c : EReal) - (r : EReal)) ((c : EReal) - (d : EReal)) * (v : EReal)
      = (((r - a) / (b - a) * u + (c - r) / (c - d) * v : ℝ) : EReal) := by
  rw [← EReal.coe_sub, ← EReal.coe_sub, ← EReal.coe_sub, ← EReal.coe_sub, Ideal.div_coe hb, Ideal.div_coe hd,
    ← EReal.coe_mul, ← EReal.coe_mul, ← EReal.coe_mul, ← EReal.coe_mul, ← EReal.coe_add]
  congr 1
  ring

/-- Different knots differ. -/
theorem knot_sub {i j : ℕ} (h : i < j) : knot j - knot i ≠ 0 := by
  have h' : (i : ℝ) < j := by exact_mod_cast h
  unfold knot
  linarith

/-- Degree zero: which two knots hold the input. -/
theorem degree0 (R : Fin 8192) (h : Fin 1024) (i : Fin 11) (r : ℝ) (hr : val_main_v10 (F := Ideal) x0 (ix2 R h) = ((r : ℝ) : EReal)) :
    val_main_v25 (F := Ideal) x0 (ix3 R h i) = ((basis r 0 i.val : ℝ) : EReal) := by
  pointwise [val_main_v13, val_main_v14, val_main_v15, val_main_v16, val_main_v17, val_main_v18, val_main_v19, val_main_v20, val_main_v21, val_main_v22, val_main_v23, val_main_v24, val_main_v25]
  rw [hr, knots, knots]
  show ((((IntOp.andi (BitVec.ofBool (decide (((knot i.val : ℝ) : EReal) ≤ (r : EReal)))) (BitVec.ofBool (decide ((r : EReal) < ((knot (1 + i.val) : ℝ) : EReal))))).toNat : ℝ)) : EReal) = ((hit r i.val : ℝ) : EReal)
  unfold hit
  by_cases a : knot i.val ≤ r <;> by_cases b : r < knot (1 + i.val) <;> simp [a, b, IntOp.andi]

/-- Degree one. -/
theorem degree1 (R : Fin 8192) (h : Fin 1024) (i : Fin 10) (r : ℝ) (hr : val_main_v10 (F := Ideal) x0 (ix2 R h) = ((r : ℝ) : EReal)) :
    val_main_v52 (F := Ideal) x0 (ix3 R h i) = ((basis r 1 i.val : ℝ) : EReal) := by
  pointwise [val_main_v13, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52]
  rw [hr, knots, knots, knots, degree0 x0 R h _ r hr, degree0 x0 R h _ r hr]
  exact (step_real r _ _ _ _ _ _ (knot_sub (by dsimp only; omega)) (knot_sub (by dsimp only; omega))).trans rfl

/-- Degree two. -/
theorem degree2 (R : Fin 8192) (h : Fin 1024) (i : Fin 9) (r : ℝ) (hr : val_main_v10 (F := Ideal) x0 (ix2 R h) = ((r : ℝ) : EReal)) :
    val_main_v79 (F := Ideal) x0 (ix3 R h i) = ((basis r 2 i.val : ℝ) : EReal) := by
  pointwise [val_main_v13, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79]
  rw [hr, knots, knots, knots, knots, degree1 x0 R h _ r hr, degree1 x0 R h _ r hr]
  exact (step_real r _ _ _ _ _ _ (knot_sub (by dsimp only; omega)) (knot_sub (by dsimp only; omega))).trans rfl

/-- Degree three: the reference's bases. -/
theorem degree3 (R : Fin 8192) (h : Fin 1024) (i : Fin 8) (r : ℝ) (hr : val_main_v10 (F := Ideal) x0 (ix2 R h) = ((r : ℝ) : EReal)) :
    val_main_v106 (F := Ideal) x0 (ix3 R h i) = ((basis r 3 i.val : ℝ) : EReal) := by
  pointwise [val_main_v13, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106]
  rw [hr, knots, knots, knots, knots, degree2 x0 R h _ r hr, degree2 x0 R h _ r hr]
  exact (step_real r _ _ _ _ _ _ (knot_sub (by dsimp only; omega)) (knot_sub (by dsimp only; omega))).trans rfl

/-! ## The layer -/

/-- The reference's nine functions of an input element: its SiLU, and the eight bases of the recursion. -/
def seen : ℕ → EReal → EReal
  | 0, x => x * Ideal.div 1 (1 + Ideal.exp (-x))
  | k + 1, x => ((basis x.toReal 3 k : ℝ) : EReal)

/-- The flattened input: row `b * 2048 + p` is row `p` of batch `b`. -/
theorem flattened (b : Fin 4) (p : Fin 2048) (h : Fin 1024) (hR : b.val * 2048 + p.val < 8192) :
    val_main_v10 (F := Ideal) x0 (ix2 (⟨b.val * 2048 + p.val, hR⟩ : Fin 8192) h) = x0 (ix3 b p h) := by
  pointwise [val_main_v10]

/-- Half of `a` times the complementary error function of `-a` over the square root of two is the exact GELU. -/
theorem gelu_erfc (a : EReal) :
    Ideal.ofBits .f32 0x3F000000#32 * a * Ideal.erfc (Ideal.div (-a) (Ideal.sqrt (Ideal.ofBits .f32 0x40000000#32))) = gelu a := by
  have e2 : Ideal.ofBits .f32 0x40000000#32 = ((2 : ℝ) : EReal) := by
    simp [Ideal.ofBits, Ideal.ieee, -EReal.coe_mul]; norm_num
  have h2 : Real.sqrt 2 ≠ 0 := by positivity
  unfold gelu
  rw [e2, Ideal.sqrt_coe, if_neg (by norm_num : ¬(2 : ℝ) < 0), Ideal.div_coe h2, EReal.neg_mul, Ideal.erfc_neg, one_div]

/-- The reference's result at an index, where the inputs are real numbers. -/
theorem result_apply (b : Fin 4) (p : Fin 2048) (o : Fin 4096) (hx : ∀ h : Fin 1024, ∃ r : ℝ, x0 (ix3 b p h) = ((r : ℝ) : EReal)) :
    val_main_v120 (F := Ideal) x0 x1 x2 x3 (ix3 b p o)
      = gelu (weigh seen (fun h => x0 (ix3 b p h)) (fun h => x1 (ix2 o h)) (fun k h => x2 (ix3 o h k)) (fun h => x3 (ix2 o h))) := by
  have hR : b.val * 2048 + p.val < 8192 := by omega
  have base : val_main_v12 (F := Ideal) x0 x1 (ix2 (⟨b.val * 2048 + p.val, hR⟩ : Fin 8192) o)
      = ∑ h : Fin 1024, seen 0 (x0 (ix3 b p h)) * x1 (ix2 o h) := by
    pointwise [val_main_v12, val_main_v11, val_main_call0_cst, val_main_call0_cst_0, val_main_call0_v0, val_main_call0_v1, val_main_call0_v2, val_main_call0_v3, val_main_call0_v4, val_main_call0_v5]
    refine Finset.sum_congr rfl fun h _ => ?_
    rw [flattened x0 b p h hR]
    rfl
  have spline : val_main_v110 (F := Ideal) x0 x2 x3 (ix2 (⟨b.val * 2048 + p.val, hR⟩ : Fin 8192) o)
      = ∑ k : Fin 8, ∑ h : Fin 1024, seen (k.val + 1) (x0 (ix3 b p h)) * (x2 (ix3 o h k) * x3 (ix2 o h)) := by
    pointwise [val_main_v107, val_main_v108, val_main_v109, val_main_v110]
    rw [Finset.sum_comm]
    refine Finset.sum_congr rfl fun k _ => Finset.sum_congr rfl fun h _ => ?_
    obtain ⟨r, hr⟩ := hx h
    rw [degree3 x0 _ h k r ((flattened x0 b p h hR).trans hr), hr]
    rfl
  pointwise [val_main_cst_3, val_main_cst_4, val_main_v111, val_main_v112, val_main_v113, val_main_v114, val_main_v115, val_main_v116, val_main_v117, val_main_v118, val_main_v119, val_main_v120]
  rw [base, spline]
  exact gelu_erfc _

end Cert.ReferenceIdeal.Read

end
-- ==== Proof.Equation.lean ====
/- The kernel's result and the reference's result are equal, on inputs that lie on the spline's grid. -/
module

public import proofs.«01_k».proof.Proof.KernelValue
public import proofs.«01_k».proof.Proof.Element
public import proofs.«01_k».proof.Proof.RefValue
public import proofs.«01_k».proof.Defs
public import proofs.«01_k».proof.Proof.Gen.Pre_x_in_grid

@[expose] public section

noncomputable section

namespace Cert.Equation

open Idealize.ShloMosaic Idealize.ShloMosaic.TcCoe Idealize.SL.Sem
open Cert.Layer Cert.Spline

/-- Five times an input compares with a literal as the real number does. -/
theorem five_le (r a : ℝ) (h : (FloatOps.mulf (F := Ideal) (φ := .f32) (FloatOps.ofBits .f32 0x40A00000#32) ((r : ℝ) : EReal) : EReal) ≤ ((a : ℝ) : EReal)) :
    5 * r ≤ a := by
  have e : (FloatOps.ofBits .f32 0x40A00000#32 : Ideal .f32) = ((5 : ℝ) : EReal) := by
    simp [Ideal.ofBits_def, Ideal.ofBits, Ideal.ieee, -EReal.coe_mul]; norm_num
  rw [e, Cert.KernelIdeal.Value.mul_real] at h
  exact EReal.coe_le_coe_iff.mp h

/-- The tests of the precondition, as propositions. -/
theorem tests (p1 p2 p3 p4 p5 p6 : Bool) (h : IntOp.andi (IntOp.andi (IntOp.andi (BitVec.ofBool p1) (BitVec.ofBool p2)) (IntOp.ori (BitVec.ofBool p3) (BitVec.ofBool p4)))
    (IntOp.ori (BitVec.ofBool p5) (BitVec.ofBool p6)) = 1#1) : p1 = true ∧ p2 = true ∧ (p3 = true ∨ p4 = true) ∧ (p5 = true ∨ p6 = true) := by
  revert p1 p2 p3 p4 p5 p6; decide

/-- What the precondition says of one input: it is a real number between -1 and 1, not strictly between an inner knot and
    the number that the kernel holds for it. -/
theorem in_grid (m : (ℓ : Loc Cert.KernelIdeal.nD Cert.KernelIdeal.τ Cert.KernelIdeal.sig) → Buf (Elt Ideal) ℓ)
    (hpre : Cert.Pre_KernelIdeal_x_in_grid m) (c : Dev Cert.KernelIdeal.nD) (i : Cert.KernelIdeal.S4x2048x1024.Idx) :
    ∃ r : ℝ, Cert.KernelIdeal.Value.inX m c i = ((r : ℝ) : EReal) ∧ -1 ≤ r ∧ r ≤ 1 ∧ (5 * r ≤ -1 ∨ near5 ≤ r) ∧ (5 * r ≤ 1 ∨ near6 ≤ r) := by
  obtain ⟨h1, h2, h3, h4⟩ := tests _ _ _ _ _ _ (congrFun (hpre c) i)
  generalize hx : Cert.KernelIdeal.Value.inX m c i = x
  change decide ((FloatOps.ofBits .f32 0xBF800000#32 : Ideal .f32) ≤ Cert.KernelIdeal.Value.inX m c i) = true at h1
  change decide (Cert.KernelIdeal.Value.inX m c i ≤ (FloatOps.ofBits .f32 0x3F800000#32 : Ideal .f32)) = true at h2
  change decide (FloatOps.mulf (F := Ideal) (φ := .f32) (FloatOps.ofBits .f32 0x40A00000#32) (Cert.KernelIdeal.Value.inX m c i) ≤ (FloatOps.ofBits .f32 0xBF800000#32 : Ideal .f32)) = true
    ∨ decide ((FloatOps.ofBits .f32 0xBE4CCCCC#32 : Ideal .f32) ≤ Cert.KernelIdeal.Value.inX m c i) = true at h3
  change decide (FloatOps.mulf (F := Ideal) (φ := .f32) (FloatOps.ofBits .f32 0x40A00000#32) (Cert.KernelIdeal.Value.inX m c i) ≤ (FloatOps.ofBits .f32 0x3F800000#32 : Ideal .f32)) = true
    ∨ decide ((FloatOps.ofBits .f32 0x3E4CCCD0#32 : Ideal .f32) ≤ Cert.KernelIdeal.Value.inX m c i) = true at h4
  rw [hx] at h1 h2 h3 h4
  rw [Cert.KernelIdeal.Value.lit_neg_one] at h1 h3
  rw [Cert.KernelIdeal.Value.lit_one] at h2 h4
  rw [Cert.KernelIdeal.Value.lit_near5] at h3
  rw [Cert.KernelIdeal.Value.lit_near6] at h4
  simp only [decide_eq_true_eq] at h1 h2 h3 h4
  induction x with
  | bot => exact absurd (le_bot_iff.mp h1) (EReal.coe_ne_bot _)
  | top => exact absurd (top_le_iff.mp h2) (EReal.coe_ne_top _)
  | coe r => exact ⟨r, rfl, EReal.coe_le_coe_iff.mp h1, EReal.coe_le_coe_iff.mp h2,
      h3.imp (five_le r _) EReal.coe_le_coe_iff.mp, h4.imp (five_le r _) EReal.coe_le_coe_iff.mp⟩

/-- On such an input the kernel's nine functions are the reference's. -/
theorem functions (k : ℕ) (hk : k < 9) (r : ℝ) (h : -1 ≤ r) (h' : r ≤ 1) (h5 : 5 * r ≤ -1 ∨ near5 ≤ r) (h6 : 5 * r ≤ 1 ∨ near6 ≤ r) :
    Cert.KernelIdeal.Value.lhsAt (F := Ideal) ((r : ℝ) : EReal) k = Cert.ReferenceIdeal.Read.seen k ((r : ℝ) : EReal) := by
  cases k with
  | zero => exact Cert.KernelIdeal.Value.lhsAt_silu _
  | succ i => exact Cert.KernelIdeal.Value.lhsAt_basis r h h' h5 h6 i (by omega)

/-- The two results are the same array. -/
theorem results (m : (ℓ : Loc Cert.KernelIdeal.nD Cert.KernelIdeal.τ Cert.KernelIdeal.sig) → Buf (Elt Ideal) ℓ)
    (hpre : Cert.Pre_KernelIdeal_x_in_grid m) (c : Dev Cert.KernelIdeal.nD) :
    Cert.ReferenceIdeal.Read.val_main_v120 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = Cert.KernelIdeal.Value.result m c := by
  funext i
  obtain ⟨b, p, o, rfl⟩ : ∃ (b : Fin 4) (p : Fin 2048) (o : Fin 4096), i = ix3 b p o :=
    ⟨i 0, i 1, i 2, by funext a; match a with | ⟨0, _⟩ => rfl | ⟨1, _⟩ => rfl | ⟨2, _⟩ => rfl⟩
  refine (Cert.ReferenceIdeal.Read.result_apply _ _ _ _ b p o fun h => (in_grid m hpre c (ix3 b p h)).imp fun _ e => e.1).trans ?_
  refine congrArg gelu (weigh_congr _ _ _ fun k hk h => ?_)
  obtain ⟨r, e, l, u, g, g'⟩ := in_grid m hpre c (ix3 b p h)
  change Cert.ReferenceIdeal.Read.seen k (Cert.KernelIdeal.Value.inX m c (ix3 b p h)) = Cert.KernelIdeal.Value.lhsAt (F := Ideal) (Cert.KernelIdeal.Value.inX m c (ix3 b p h)) k
  rw [e]
  exact (functions k hk r l u g g').symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_x_in_grid
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-! ## The runs -/

/-- The kernel runs, leaves its arguments as they were and every semaphore at zero. -/
theorem kernel_frame : Cert.quiescent_Kernel := fun m g _ => Cert.Kernel.Gen.frame m g

/-- So does the idealized kernel. -/
theorem ideal_frame : Cert.quiescent_KernelIdeal := fun m g _ => Cert.KernelIdeal.Gen.frame m g

/-- So does the idealized kernel from arguments on the grid. -/
theorem ideal_frame_on_grid : Cert.quiescent_KernelIdeal_pre_x_in_grid := fun m g _ => Cert.KernelIdeal.Gen.frame m g

/-- The reference runs, leaves its arguments as they were and every semaphore at zero. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- So does the reference from arguments on the grid. -/
theorem reference_frame_on_grid : Cert.quiescent_ReferenceIdeal_pre_x_in_grid := fun m g _ => reference_frame m g trivial

/-! ## The named constants and the value -/

/-- Each named constant stands for a literal of the kernel that is nearest to its value. -/
theorem constants : Cert.preserves_Kernel_KernelIdeal :=
  ⟨IdealRules.named_const.statement _ _ _ _ _ rfl, IdealRules.named_const.statement _ _ _ _ _ rfl,
   IdealRules.named_const.statement _ _ _ _ _ rfl, IdealRules.named_const.statement _ _ _ _ _ rfl,
   IdealRules.named_const.statement _ _ _ _ _ rfl⟩

/-- From arguments that meet the precondition, the idealized kernel and the reference end with the same result array. -/
theorem value : Cert.algebraic_KernelIdeal_ReferenceIdeal_pre_x_in_grid := by
  intro m g m' g' hpre hagree
  refine ⟨fun c => Cert.KernelIdeal.Value.result m c, Cert.KernelIdeal.Value.run m g, ?_⟩
  refine (θ_run Cert.ReferenceIdeal.defs _ _).mono (fun _ h c => ⟨(h c).1.trans ?_, (h c).2⟩)
    (Cert.ReferenceIdeal.Value.run (F := Ideal) m' g')
  rw [Cert.ReferenceIdeal.Read.val_main_v120_eq, (hagree c).1, (hagree c).2.1, (hagree c).2.2.1, (hagree c).2.2.2]
  exact Cert.Equation.results m hpre c

/-- Every claim made of the kernel and the reference. -/
theorem claim : Cert.Claim := ⟨Cert.Kernel.Gen.facts, Cert.KernelIdeal.Gen.facts, Cert.ReferenceIdeal.Gen.facts, Cert.Pre_x_in_grid.Gen.facts,
  kernel_frame, ideal_frame, ideal_frame_on_grid, reference_frame, reference_frame_on_grid, constants, value⟩

end Cert.Proof

end
